-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_x_finite [hPre_x_finite : Cert.Pre_x_finite.Facts] (m : (ℓ : Loc Cert.KernelIdeal.nD Cert.KernelIdeal.τ Cert.KernelIdeal.sig) → Buf (Elt Ideal) ℓ) : Prop :=
  ∀ c : Dev Cert.KernelIdeal.nD,
    (Cert.Pre_x_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_x_finite [hPre_x_finite : Cert.Pre_x_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_x_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_x_finite [hKernelIdeal : Cert.KernelIdeal.Facts] [hPre_x_finite : Cert.Pre_x_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_x_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_x_finite [hReferenceIdeal : Cert.ReferenceIdeal.Facts] [hPre_x_finite : Cert.Pre_x_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_x_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_x_finite [hKernelIdeal : Cert.KernelIdeal.Facts] [hReferenceIdeal : Cert.ReferenceIdeal.Facts] [hPre_x_finite : Cert.Pre_x_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_x_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2)) (v1 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_v4) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_v19) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_x_finite : Cert.Pre_x_finite.Facts),
    quiescent_Kernel (hKernel := hKernel)
    ∧ quiescent_KernelIdeal (hKernelIdeal := hKernelIdeal)
    ∧ quiescent_KernelIdeal_pre_x_finite (hKernelIdeal := hKernelIdeal) (hPre_x_finite := hPre_x_finite)
    ∧ quiescent_ReferenceIdeal (hReferenceIdeal := hReferenceIdeal)
    ∧ quiescent_ReferenceIdeal_pre_x_finite (hReferenceIdeal := hReferenceIdeal) (hPre_x_finite := hPre_x_finite)
    ∧ preserves_Kernel_KernelIdeal
    ∧ algebraic_KernelIdeal_ReferenceIdeal_pre_x_finite (hKernelIdeal := hKernelIdeal) (hReferenceIdeal := hReferenceIdeal) (hPre_x_finite := hPre_x_finite)
-- ==== Pre_x_finite.lean ====
abbrev S65536x32 : Shape := ⟨2, ![65536, 32]⟩
abbrev S512x32 : Shape := ⟨2, ![512, 32]⟩
abbrev S_ : Shape := ⟨0, ![]⟩

class Facts : Prop where
  bcast_S_S65536x32 : S_.BroadcastsInDim S65536x32 (![] : Fin 0 → Fin S65536x32.rank)

variable [Facts]

def fn {F : FTy → Type} [FloatOps F] (main_arg0 : FVec F S65536x32 .f32) (main_arg1 : FVec F S512x32 .f32) : IVec S65536x32 1 :=
  let main_v0 : FVec F S65536x32 .f32 := Host.absf main_arg0
  let main_cst : FVec F S_ .f32 := constant S_ .f32 0x7F800000#32
  let main_v1 : FVec F S65536x32 .f32 := broadcastInDim S65536x32 ![] bcast_S_S65536x32 main_cst
  let main_v2 : IVec S65536x32 1 := cmpf .olt main_v0 main_v1
  main_v2
-- ==== Kernel.lean ====
abbrev S65536x32 : Shape := ⟨2, ![65536, 32]⟩
abbrev S512x32 : Shape := ⟨2, ![512, 32]⟩
abbrev S32x65536 : Shape := ⟨2, ![32, 65536]⟩
abbrev S4x1x16384 : Shape := ⟨3, ![4, 1, 16384]⟩
abbrev S4x1x1 : Shape := ⟨3, ![4, 1, 1]⟩
abbrev S32x16384 : Shape := ⟨2, ![32, 16384]⟩
abbrev S1x1x16384 : Shape := ⟨3, ![1, 1, 16384]⟩
abbrev S1x1x1 : Shape := ⟨3, ![1, 1, 1]⟩
abbrev S1x32x16384 : Shape := ⟨3, ![1, 32, 16384]⟩
abbrev S1 : Shape := ⟨1, ![1]⟩
abbrev S512 : Shape := ⟨1, ![512]⟩
abbrev S512x1 : Shape := ⟨2, ![512, 1]⟩
abbrev S512x16384 : Shape := ⟨2, ![512, 16384]⟩
abbrev S8x1 : Shape := ⟨2, ![8, 1]⟩
abbrev S8x16384 : Shape := ⟨2, ![8, 16384]⟩
abbrev S4x16384 : Shape := ⟨2, ![4, 16384]⟩
abbrev S2x16384 : Shape := ⟨2, ![2, 16384]⟩
abbrev S1x16384 : Shape := ⟨2, ![1, 16384]⟩
abbrev S16384 : Shape := ⟨1, ![16384]⟩
abbrev S65536 : Shape := ⟨1, ![65536]⟩
abbrev S_ : Shape := ⟨0, ![]⟩

abbrev nBuf : Space → Nat
  | .hbm => 10
  | .vmem => 5
  | .smem => 2
  | _ => 0

abbrev bufTy : (tb : Table) → Fin (tcTables nBuf tb) → BufTy
  | .hbm, ⟨0, _⟩ => ⟨S65536x32, .f32⟩
  | .hbm, ⟨1, _⟩ => ⟨S512x32, .f32⟩
  | .hbm, ⟨2, _⟩ => ⟨S32x65536, .f32⟩
  | .hbm, ⟨3, _⟩ => ⟨S4x1x16384, .i32⟩
  | .hbm, ⟨4, _⟩ => ⟨S4x1x1, .f32⟩
  | .hbm, ⟨5, _⟩ => ⟨S65536, .i32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .local _ .vmem, ⟨0, _⟩ => ⟨S32x16384, .f32⟩
  | .local _ .vmem, ⟨1, _⟩ => ⟨S32x16384, .f32⟩
  | .local _ .vmem, ⟨2, _⟩ => ⟨S512x32, .f32⟩
  | .local _ .vmem, ⟨3, _⟩ => ⟨S1x1x16384, .i32⟩
  | .local _ .vmem, ⟨4, _⟩ => ⟨S1x1x16384, .i32⟩
  | .local _ .smem, ⟨0, _⟩ => ⟨S1x1x1, .f32⟩
  | .local _ .smem, ⟨1, _⟩ => ⟨S1x1x1, .f32⟩
  | _, _ => ⟨S65536x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1_0 : Ref sig .tc := ⟨.hbm, 3, rfl⟩
abbrev main_v1_1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.smem, 0, rfl⟩
abbrev cc0_stg3_1 : Ref sig .tc := ⟨.smem, 1, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S32x16384 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x1x16384 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .smem S1x1x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ReferenceIdeal.lean ====
abbrev S65536x32 : Shape := ⟨2, ![65536, 32]⟩
abbrev S512x32 : Shape := ⟨2, ![512, 32]⟩
abbrev S_ : Shape := ⟨0, ![]⟩
abbrev S65536 : Shape := ⟨1, ![65536]⟩
abbrev S65536x1 : Shape := ⟨2, ![65536, 1]⟩
abbrev S512 : Shape := ⟨1, ![512]⟩
abbrev S1x512 : Shape := ⟨2, ![1, 512]⟩
abbrev S65536x512 : Shape := ⟨2, ![65536, 512]⟩
abbrev S32x512 : Shape := ⟨2, ![32, 512]⟩
abbrev S65536x1x1 : Shape := ⟨3, ![65536, 1, 1]⟩
abbrev S1 : Shape := ⟨1, ![1]⟩
abbrev S1x1x1 : Shape := ⟨3, ![1, 1, 1]⟩

abbrev nBuf : Space → Nat
  | .hbm => 52
  | .vmem => 0
  | .smem => 0
  | _ => 0

abbrev bufTy : (tb : Table) → Fin (tcTables nBuf tb) → BufTy
  | .hbm, ⟨0, _⟩ => ⟨S65536x32, .f32⟩
  | .hbm, ⟨1, _⟩ => ⟨S512x32, .f32⟩
  | .hbm, ⟨2, _⟩ => ⟨S65536x32, .f32⟩
  | .hbm, ⟨3, _⟩ => ⟨S_, .f32⟩
  | .hbm, ⟨4, _⟩ => ⟨S65536, .f32⟩
  | .hbm, ⟨5, _⟩ => ⟨S65536x1, .f32⟩
  | .hbm, ⟨6, _⟩ => ⟨S512x32, .f32⟩
  | .hbm, ⟨7, _⟩ => ⟨S_, .f32⟩
  | .hbm, ⟨8, _⟩ => ⟨S512, .f32⟩
  | .hbm, ⟨9, _⟩ => ⟨S1x512, .f32⟩
  | .hbm, ⟨10, _⟩ => ⟨S65536x512, .f32⟩
  | .hbm, ⟨11, _⟩ => ⟨S65536x512, .f32⟩
  | .hbm, ⟨12, _⟩ => ⟨S65536x512, .f32⟩
  | .hbm, ⟨13, _⟩ => ⟨S32x512, .f32⟩
  | .hbm, ⟨14, _⟩ => ⟨S65536x512, .f32⟩
  | .hbm, ⟨15, _⟩ => ⟨S_, .f32⟩
  | .hbm, ⟨16, _⟩ => ⟨S65536x512, .f32⟩
  | .hbm, ⟨17, _⟩ => ⟨S65536x512, .f32⟩
  | .hbm, ⟨18, _⟩ => ⟨S65536x512, .f32⟩
  | .hbm, ⟨19, _⟩ => ⟨S65536x512, .i32⟩
  | .hbm, ⟨20, _⟩ => ⟨S_, .f32⟩
  | .hbm, ⟨21, _⟩ => ⟨S_, .i32⟩
  | .hbm, ⟨22, _⟩ => ⟨S65536, .f32⟩
  | .hbm, ⟨23, _⟩ => ⟨S65536, .i32⟩
  | .hbm, ⟨24, _⟩ => ⟨S65536x1, .i32⟩
  | .hbm, ⟨25, _⟩ => ⟨S_, .i32⟩
  | .hbm, ⟨26, _⟩ => ⟨S65536x1, .i32⟩
  | .hbm, ⟨27, _⟩ => ⟨S65536x1, .i1⟩
  | .hbm, ⟨28, _⟩ => ⟨S_, .i32⟩
  | .hbm, ⟨29, _⟩ => ⟨S65536x1, .i32⟩
  | .hbm, ⟨30, _⟩ => ⟨S65536x1, .i32⟩
  | .hbm, ⟨31, _⟩ => ⟨S65536x1, .i32⟩
  | .hbm, ⟨32, _⟩ => ⟨S65536x1x1, .i32⟩
  | .hbm, ⟨33, _⟩ => ⟨S1, .i32⟩
  | .hbm, ⟨34, _⟩ => ⟨S_, .i32⟩
  | .hbm, ⟨35, _⟩ => ⟨S65536x1x1, .i32⟩
  | .hbm, ⟨36, _⟩ => ⟨S65536x1x1, .i1⟩
  | .hbm, ⟨37, _⟩ => ⟨S1x1x1, .i32⟩
  | .hbm, ⟨38, _⟩ => ⟨S65536x1x1, .i32⟩
  | .hbm, ⟨39, _⟩ => ⟨S65536x1x1, .i1⟩
  | .hbm, ⟨40, _⟩ => ⟨S65536x1x1, .i1⟩
  | .hbm, ⟨41, _⟩ => ⟨S_, .i1⟩
  | .hbm, ⟨42, _⟩ => ⟨S65536x1, .i1⟩
  | .hbm, ⟨43, _⟩ => ⟨S65536x1, .f32⟩
  | .hbm, ⟨44, _⟩ => ⟨S_, .f32⟩
  | .hbm, ⟨45, _⟩ => ⟨S65536x1, .f32⟩
  | .hbm, ⟨46, _⟩ => ⟨S65536x1, .f32⟩
  | .hbm, ⟨47, _⟩ => ⟨S65536, .f32⟩
  | .hbm, ⟨48, _⟩ => ⟨S_, .f32⟩
  | .hbm, ⟨49, _⟩ => ⟨S_, .f32⟩
  | .hbm, ⟨50, _⟩ => ⟨S_, .f32⟩
  | .hbm, ⟨51, _⟩ => ⟨S_, .f32⟩
  | _, _ => ⟨S65536x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_cst_1 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_call0_v0 : Ref sig .tc := ⟨.hbm, 19, rfl⟩
abbrev main_call0_cst : Ref sig .tc := ⟨.hbm, 20, rfl⟩
abbrev main_call0_c : Ref sig .tc := ⟨.hbm, 21, rfl⟩
abbrev main_call0_v1_0 : Ref sig .tc := ⟨.hbm, 22, rfl⟩
abbrev main_v14 : Ref sig .tc := ⟨.hbm, 23, rfl⟩
abbrev main_v15 : Ref sig .tc := ⟨.hbm, 24, rfl⟩
abbrev main_call1_c : Ref sig .tc := ⟨.hbm, 25, rfl⟩
abbrev main_call1_v0 : Ref sig .tc := ⟨.hbm, 26, rfl⟩
abbrev main_call1_v1 : Ref sig .tc := ⟨.hbm, 27, rfl⟩
abbrev main_call1_c_0 : Ref sig .tc := ⟨.hbm, 28, rfl⟩
abbrev main_call1_v2 : Ref sig .tc := ⟨.hbm, 29, rfl⟩
abbrev main_call1_v3 : Ref sig .tc := ⟨.hbm, 30, rfl⟩
abbrev main_call1_v4 : Ref sig .tc := ⟨.hbm, 31, rfl⟩
abbrev main_call1_v5 : Ref sig .tc := ⟨.hbm, 32, rfl⟩
abbrev main_call1_c_1 : Ref sig .tc := ⟨.hbm, 33, rfl⟩
abbrev main_call1_c_2 : Ref sig .tc := ⟨.hbm, 34, rfl⟩
abbrev main_call1_v6 : Ref sig .tc := ⟨.hbm, 35, rfl⟩
abbrev main_call1_v7 : Ref sig .tc := ⟨.hbm, 36, rfl⟩
abbrev main_call1_v8 : Ref sig .tc := ⟨.hbm, 37, rfl⟩
abbrev main_call1_v9 : Ref sig .tc := ⟨.hbm, 38, rfl⟩
abbrev main_call1_v10 : Ref sig .tc := ⟨.hbm, 39, rfl⟩
abbrev main_call1_v11 : Ref sig .tc := ⟨.hbm, 40, rfl⟩
abbrev main_call1_c_3 : Ref sig .tc := ⟨.hbm, 41, rfl⟩
abbrev main_call1_v12 : Ref sig .tc := ⟨.hbm, 42, rfl⟩
abbrev main_call1_v13 : Ref sig .tc := ⟨.hbm, 43, rfl⟩
abbrev main_call1_cst : Ref sig .tc := ⟨.hbm, 44, rfl⟩
abbrev main_call1_v14 : Ref sig .tc := ⟨.hbm, 45, rfl⟩
abbrev main_v16 : Ref sig .tc := ⟨.hbm, 46, rfl⟩
abbrev main_v17 : Ref sig .tc := ⟨.hbm, 47, rfl⟩
abbrev main_cst_2 : Ref sig .tc := ⟨.hbm, 48, rfl⟩
abbrev main_v18 : Ref sig .tc := ⟨.hbm, 49, rfl⟩
abbrev main_cst_3 : Ref sig .tc := ⟨.hbm, 50, rfl⟩
abbrev main_v19 : Ref sig .tc := ⟨.hbm, 51, rfl⟩

abbrev nD : Nat := 1
abbrev τ : Topo := Topo.v7x

variable {F : FTy → Type} [FloatOps F]
-- ==== Proof.Assign.Scan.lean ====
module

public import proofs.«01_k».proof.Defs
public import proofs.«01_k».proof.Proof.Gen.KernelIdeal.Skeleton
public import proofs.«01_k».proof.Proof.Gen.KernelIdeal.Frame
public import Idealize.ShloMosaic.Lib.Pipeline.ValueKit
public import Idealize.ShloMosaic.Lib.Pointwise

@[expose] public section

set_option maxRecDepth 65536
noncomputable section

namespace Cert.KernelIdeal.Assign
open Idealize.ShloMosaic Idealize.SL.Sem
open Cert.KernelIdeal Cert.KernelIdeal.Gen

variable {F : FTy → Type} [FloatOps F]

/-- Eight rows starting at row `8k` fit in the 512 rows of the bias column. -/
theorem slab_col_ok (k : Fin 64) : Shape.Slices S512x1 ![8 * k.val, 0] S8x1 := by
  revert k; decide +kernel
/-- Eight rows starting at row `8k` fit in the 512 rows of the score matrix. -/
theorem slab_mat_ok (k : Fin 64) : Shape.Slices S512x16384 ![8 * k.val, 0] S8x16384 := by
  revert k; decide +kernel

/-- The eight rows `8k … 8k+7` of the biased scores. -/
def slab (b : FVec F S512x1 .f32) (s : FVec F S512x16384 .f32) (k : Fin 64) : FVec F S8x16384 .f32 :=
  subf (broadcastTo S8x16384 (extractStridedSlice S8x1 ![8 * k.val, 0] b (slab_col_ok k)) broadcasts_S8x1_S8x16384)
    (extractStridedSlice S8x16384 ![8 * k.val, 0] s (slab_mat_ok k))

/-- The running minimum over the slabs `0 … k`. -/
def runMin (b : FVec F S512x1 .f32) (s : FVec F S512x16384 .f32) : (k : Nat) → k < 64 → FVec F S8x16384 .f32
  | 0, h => slab b s ⟨0, h⟩
  | k + 1, h => minimumf (slab b s ⟨k + 1, h⟩) (runMin b s k (Nat.lt_of_succ_lt h))

/-- The slab at which the running minimum was reached first. -/
def runArg (b : FVec F S512x1 .f32) (s : FVec F S512x16384 .f32) : (k : Nat) → k < 64 → IVec S8x16384 32
  | 0, _ => broadcast S8x16384 0#32
  | k + 1, h => select (cmpf .olt (slab b s ⟨k + 1, h⟩) (runMin b s k (Nat.lt_of_succ_lt h)))
      (broadcast S8x16384 (BitVec.ofNat 32 (k + 1))) (runArg b s k (Nat.lt_of_succ_lt h))

/-- The index block of a tile: the scan over the slabs, then the three halving rounds over the eight rows. -/
def tileIdx (x : Vec F S32x16384 .f32) (c : Vec F S512x32 .f32) : IVec S1x1x16384 32 :=
  k0_pay168 (runMin (k0_pay3 c) (k0_pay4 x c) 63 (by decide))
    (muli (runArg (k0_pay3 c) (k0_pay4 x c) 63 (by decide)) (broadcast S8x16384 8#32))
    (iota .tc S8x16384 32 [0] iota_S8x16384_d0_w32)

/-- The partial loss of a tile: the sum of squares plus twice the sum of the least biased scores. -/
def tilePart (x : Vec F S32x16384 .f32) (c : Vec F S512x32 .f32) : F .f32 :=
  k0_pay169 (k0_pay2 x) (runMin (k0_pay3 c) (k0_pay4 x c) 63 (by decide))
    (muli (runArg (k0_pay3 c) (k0_pay4 x c) 63 (by decide)) (broadcast S8x16384 8#32))
    (iota .tc S8x16384 32 [0] iota_S8x16384_d0_w32)

variable (m : (ℓ : Loc nD τ sig) → Buf (Elt Ideal) ℓ)

/-- The index block a grid point writes is `tileIdx` of its two input blocks: the 64 unrolled slab steps are the recursion. -/
theorem outs_idx (c : Dev nD) (t : Fin cfg0.N) (y) : (outsAt0 m c t).1 y = tileIdx (iblk m c 0 t) (iblk m c 1 t) y := by
  unfold outsAt0
  dsimp only
  frame_out
  sl_kernel_rfl
/-- The partial loss a grid point writes is `tilePart` of its two input blocks. -/
theorem outs_part (c : Dev nD) (t : Fin cfg0.N) (y) : (outsAt0 m c t).2 y = tilePart (iblk m c 0 t) (iblk m c 1 t) := by
  unfold outsAt0
  dsimp only
  frame_out
  sl_kernel_rfl
end Cert.KernelIdeal.Assign
-- ==== Proof.Assign.Best.lean ====
module

public import Idealize.ShloMosaic.Lib.Pointwise

@[expose] public section

noncomputable section

/-! # The first least value

The kernel's scan, its halving rounds and the reference's reduction all keep a (value, index word) pair: the least
value met so far, and on equal values the smallest index. `Held S v w` says that such a pair is the right one for the
set `S` of (value, index) pairs met so far. -/

namespace Cert.Assign

open Idealize.ShloMosaic

/-- A code's index as a 32-bit word. -/
def word (n : Fin 512) : BitVec 32 := BitVec.ofNat 32 n.val

/-- `v` is the least value among the pairs of `S`, and the word `w` is the smallest index at which it occurs. -/
def Held (S : Set (EReal × Fin 512)) (v : EReal) (w : BitVec 32) : Prop :=
  ∃ n, (v, n) ∈ S ∧ w = word n ∧ ∀ p ∈ S, v < p.1 ∨ (v = p.1 ∧ n ≤ p.2)

/-- All (value, index) pairs of a function on the 512 codes. -/
def graph (f : Fin 512 → EReal) : Set (EReal × Fin 512) := {p | p.1 = f p.2}

/-- Signed comparison of two index words is comparison of the indices. -/
theorem word_slt (a b : Fin 512) : (word a).slt (word b) = decide (a < b) := by
  have ha := a.isLt
  have hb := b.isLt
  have key : ∀ n : Fin 512, (word n).toInt = (n.val : ℤ) := fun n => by
    have hn := n.isLt
    unfold word
    rw [BitVec.toInt_eq_toNat_of_lt] <;> simp only [BitVec.toNat_ofNat] <;> omega
  rw [BitVec.slt, key, key]
  exact decide_eq_decide.2 (by rw [Int.ofNat_lt]; exact Iff.rfl)

/-- Distinct indices have distinct words. -/
theorem word_inj {a b : Fin 512} (h : word a = word b) : a = b := by
  have ha := a.isLt
  have hb := b.isLt
  have := congrArg BitVec.toNat h
  simp only [word, BitVec.toNat_ofNat] at this
  exact Fin.ext (by omega)

/-- A single pair holds itself. -/
theorem held_single (v : EReal) (n : Fin 512) : Held {(v, n)} v (word n) :=
  ⟨n, rfl, rfl, fun p hp => Or.inr (by rw [Set.mem_singleton_iff.1 hp]; exact ⟨rfl, le_refl _⟩)⟩

/-- Two held pairs for the same set are equal. -/
theorem held_unique {S : Set (EReal × Fin 512)} {v v' : EReal} {w w' : BitVec 32} (h : Held S v w) (h' : Held S v' w') :
    v = v' ∧ w = w' := by
  obtain ⟨n, hn, rfl, hl⟩ := h
  obtain ⟨n', hn', rfl, hl'⟩ := h'
  rcases hl _ hn' with a | ⟨a, b⟩ <;> rcases hl' _ hn with c | ⟨c, d⟩
  · exact absurd (lt_trans a c) (lt_irrefl _)
  · exact absurd (c ▸ a) (lt_irrefl _)
  · exact absurd (a ▸ c) (lt_irrefl _)
  · exact ⟨a, by rw [le_antisymm b d]⟩

/-- Keeping the smaller of two held pairs (the smaller index on equal values) holds the union. -/
theorem held_union {S T : Set (EReal × Fin 512)} {va vb : EReal} {wa wb : BitVec 32} (ha : Held S va wa) (hb : Held T vb wb) :
    Held (S ∪ T) (if vb < va ∨ (vb = va ∧ wb.slt wa = true) then vb else va)
      (if vb < va ∨ (vb = va ∧ wb.slt wa = true) then wb else wa) := by
  obtain ⟨n, hn, rfl, hl⟩ := ha
  obtain ⟨k, hk, rfl, hk'⟩ := hb
  rw [word_slt]
  simp only [decide_eq_true_eq]
  by_cases hc : vb < va ∨ (vb = va ∧ k < n)
  · rw [if_pos hc, if_pos hc]
    refine ⟨k, Or.inr hk, rfl, fun p hp => ?_⟩
    rcases hp with hp | hp
    · rcases hc with hc | ⟨hc, hkn⟩
      · rcases hl p hp with h | ⟨h, -⟩
        · exact Or.inl (lt_trans hc h)
        · exact Or.inl (h ▸ hc)
      · rcases hl p hp with h | ⟨h, h'⟩
        · exact Or.inl (hc ▸ h)
        · exact Or.inr ⟨hc.trans h, le_trans (le_of_lt hkn) h'⟩
    · exact hk' p hp
  · rw [if_neg hc, if_neg hc]
    rw [not_or, not_and, not_lt, not_lt] at hc
    refine ⟨n, Or.inl hn, rfl, fun p hp => ?_⟩
    rcases hp with hp | hp
    · exact hl p hp
    · rcases lt_or_eq_of_le hc.1 with h | h
      · rcases hk' p hp with h' | ⟨h', -⟩
        · exact Or.inl (lt_trans h h')
        · exact Or.inl (h' ▸ h)
      · rcases hk' p hp with h' | ⟨h', h''⟩
        · exact Or.inl (h ▸ h')
        · exact Or.inr ⟨h.trans h', le_trans (hc.2 h.symm) h''⟩

/-- A pair that some pair of `S` is at least as good as may be dropped from the set. -/
theorem held_drop {S : Set (EReal × Fin 512)} {v v₀ : EReal} {w : BitVec 32} {n₀ : Fin 512} (h : Held ({(v₀, n₀)} ∪ S) v w)
    (hd : ∃ v₁ ≤ v₀, (v₁, n₀) ∈ S) : Held S v w := by
  obtain ⟨n, hn, rfl, hl⟩ := h
  obtain ⟨v₁, hv, hS⟩ := hd
  refine ⟨n, ?_, rfl, fun p hp => hl p (Or.inr hp)⟩
  rcases hn with hn | hn
  · obtain ⟨rfl, rfl⟩ := Prod.mk.inj (Set.mem_singleton_iff.1 hn)
    rcases hl _ (Or.inr hS) with h | ⟨h, -⟩
    · exact absurd (lt_of_lt_of_le h hv) (lt_irrefl _)
    · exact (show v = v₁ from h) ▸ hS
  · exact hn

/-- A strictly increasing change of all the values changes the held value and keeps the held index. -/
theorem held_map {f : Fin 512 → EReal} {v : EReal} {w : BitVec 32} (φ : EReal → EReal) (hφ : StrictMono φ)
    (h : Held (graph f) v w) : Held (graph fun n => φ (f n)) (φ v) w := by
  obtain ⟨n, hn, rfl, hl⟩ := h
  refine ⟨n, congrArg φ hn, rfl, fun p hp => ?_⟩
  rcases hl (f p.2, p.2) rfl with h | ⟨h, h'⟩
  · exact Or.inl (lt_of_lt_of_eq (hφ h) (Eq.symm hp))
  · exact Or.inr ⟨(congrArg φ h).trans (Eq.symm hp), h'⟩

/-- The one-bit word of a decided proposition. -/
theorem ite_bit {α : Type} (p : Prop) [Decidable p] (a b : α) :
    Scalar.select (if p then 1#1 else 0#1) a b = if p then a else b := by
  by_cases h : p <;> simp [h, Scalar.select]

/-- A select on the ordered test "less". -/
theorem select_lt {α : Type} (a b : Ideal .f32) (u v : α) :
    Scalar.select (FloatOps.cmpf .olt a b) u v = if (a : EReal) < b then u else v := by
  rw [← ite_bit, Ideal.cmpf_def, Ideal.cmp]
  by_cases h : (a : EReal) < b <;> simp [h]

/-- The kernel's and the reference's one-bit test "smaller, or equal with a smaller index word". -/
theorem better_bit (va vb : Ideal .f32) (wa wb : BitVec 32) :
    IntOp.ori (FloatOps.cmpf .olt vb va) (IntOp.andi (FloatOps.cmpf .oeq vb va) (IntOp.cmpi .slt wb wa))
      = if (vb : EReal) < va ∨ ((vb : EReal) = va ∧ wb.slt wa = true) then 1#1 else 0#1 := by
  rw [Ideal.cmpf_def, Ideal.cmpf_def]
  simp only [Ideal.cmp, IntOp.cmpi, IntOp.ori, IntOp.andi]
  by_cases h1 : (vb : EReal) < va <;> by_cases h2 : (vb : EReal) = va <;> cases h3 : wb.slt wa <;>
    simp [h1, h2]

/-- Reading the value of a held pair by the plain test "smaller": on equal values either is the value. -/
theorem held_min_value (a b : EReal) (p : Prop) [Decidable p] : (if a < b ∨ (a = b ∧ p) then a else b) = if a < b then a else b := by
  by_cases h : a < b
  · rw [if_pos (Or.inl h), if_pos h]
  · by_cases h' : a = b
    · subst h'; simp
    · simp [h, h']

/-- One merge as both programs write it: select on the one-bit test. -/
theorem held_select {S T : Set (EReal × Fin 512)} {va vb : Ideal .f32} {wa wb : BitVec 32} (ha : Held S va wa)
    (hb : Held T vb wb) :
    Held (S ∪ T)
      (Scalar.select (IntOp.ori (FloatOps.cmpf .olt vb va) (IntOp.andi (FloatOps.cmpf .oeq vb va) (IntOp.cmpi .slt wb wa))) vb va)
      (Scalar.select (IntOp.ori (FloatOps.cmpf .olt vb va) (IntOp.andi (FloatOps.cmpf .oeq vb va) (IntOp.cmpi .slt wb wa))) wb wa) := by
  rw [better_bit, ite_bit, ite_bit]
  exact held_union ha hb

end Cert.Assign
-- ==== Proof.Assign.Tile.lean ====
module

public import proofs.«01_k».proof.Proof.Assign.Scan
public import proofs.«01_k».proof.Proof.Assign.Best

@[expose] public section

set_option maxRecDepth 16384
noncomputable section

/-! # One tile of the kernel at the ideal values

Lane `l` of a tile ends with the first code of least biased score, and the tile's partial loss is the sum of its squares
plus twice the sum of those least scores. -/

namespace Cert.KernelIdeal.Assign
open Idealize.ShloMosaic Idealize.SL.Sem
open Cert.KernelIdeal Cert.KernelIdeal.Gen Cert.Assign

/-- The pattern of one half. -/
theorem half_bits : Ideal.ofBits .f32 0x3F000000#32 = ((1 / 2 : ℝ) : EReal) := by
  simp [Ideal.ofBits, Ideal.ieee]
  rw [← EReal.coe_mul]; norm_num

/-- The pattern of two. -/
theorem two_bits : Ideal.ofBits .f32 0x40000000#32 = ((2 : ℝ) : EReal) := by
  simp [Ideal.ofBits, Ideal.ieee]
  rw [← EReal.coe_mul]; norm_num

variable (x : Vec Ideal S32x16384 .f32) (c : Vec Ideal S512x32 .f32)

/-- The biased score of code `n` for lane `l`: half the code's squared norm minus its product with the lane's column. -/
def score (l : Fin 16384) (n : Fin 512) : EReal :=
  ((1 / 2 : ℝ) : EReal) * (∑ k : Fin 32, c (ix2 n k) * c (ix2 n k)) - ∑ k : Fin 32, c (ix2 n k) * x (ix2 k l)

/-- The bias column at a code. -/
theorem bias_apply (n : Fin 512) : k0_pay3 c (ix2 n 0) = ((1 / 2 : ℝ) : EReal) * ∑ k : Fin 32, c (ix2 n k) * c (ix2 n k) := by
  pointwise [k0_pay3]
  rw [half_bits]

/-- The products of the codes with the tile's columns. -/
theorem prod_apply (n : Fin 512) (l : Fin 16384) : k0_pay4 x c (ix2 n l) = ∑ k : Fin 32, c (ix2 n k) * x (ix2 k l) := by
  pointwise [k0_pay4, k0_pay1]

/-- Row `r` of slab `k` holds the scores of code `8k + r`. -/
theorem slab_apply (k : Fin 64) (r : Fin 8) (l : Fin 16384) (n : Fin 512) (hn : n.val = 8 * k.val + r.val) :
    slab (k0_pay3 c) (k0_pay4 x c) k (ix2 r l) = score x c l n := by
  have h : slab (k0_pay3 c) (k0_pay4 x c) k (ix2 r l) = k0_pay3 c (ix2 n 0) - k0_pay4 x c (ix2 n l) := by
    pointwise [slab]
    rw [show (⟨8 * k.val + r.val, _⟩ : Fin 512) = n from Fin.ext hn.symm]
  rw [h, bias_apply, prod_apply]
  rfl

/-- The pairs of the codes on row `r` of their slab, in the slabs up to `k`. -/
def rowsUpTo (f : Fin 512 → EReal) (r k : Nat) : Set (EReal × Fin 512) := {p | p.1 = f p.2 ∧ p.2.val % 8 = r ∧ p.2.val / 8 ≤ k}

/-- After slab `k` the running minimum is the least score of the row so far, and the running slab number is that of the
    first code reaching it: a later slab replaces it only when strictly smaller. -/
theorem scan_apply (r : Fin 8) (l : Fin 16384) (k : Nat) (hk : k < 64) :
    ∃ n : Fin 512, (runMin (k0_pay3 c) (k0_pay4 x c) k hk (ix2 r l), n) ∈ rowsUpTo (score x c l) r k
      ∧ runArg (k0_pay3 c) (k0_pay4 x c) k hk (ix2 r l) = BitVec.ofNat 32 (n.val / 8)
      ∧ ∀ p ∈ rowsUpTo (score x c l) r k, runMin (k0_pay3 c) (k0_pay4 x c) k hk (ix2 r l) < p.1
          ∨ (runMin (k0_pay3 c) (k0_pay4 x c) k hk (ix2 r l) = p.1 ∧ n ≤ p.2) := by
  induction k with
  | zero =>
    have hr := r.isLt
    refine ⟨⟨r.val, by omega⟩, ⟨slab_apply x c ⟨0, hk⟩ r l ⟨r.val, by omega⟩ (by simp), by simp, by simp⟩, ?_, ?_⟩
    · rw [Nat.div_eq_of_lt hr]; rfl
    · rintro ⟨v, n⟩ ⟨hv, h8, hq⟩
      dsimp only at hv h8 hq
      have hn : n = ⟨r.val, by omega⟩ := Fin.ext (by dsimp only; omega)
      refine Or.inr ⟨?_, ?_⟩
      · rw [hv]; exact slab_apply x c ⟨0, hk⟩ r l n (by rw [hn]; simp)
      · rw [hn]
  | succ k ih =>
    obtain ⟨n, ⟨hv, h8, hq⟩, ha, hl⟩ := ih (Nat.lt_of_succ_lt hk)
    have hr := r.isLt
    dsimp only at hv h8 hq
    let n₁ : Fin 512 := ⟨8 * (k + 1) + r.val, by omega⟩
    have hs : slab (k0_pay3 c) (k0_pay4 x c) ⟨k + 1, hk⟩ (ix2 r l) = score x c l n₁ := slab_apply x c ⟨k + 1, hk⟩ r l n₁ rfl
    have hm : runMin (k0_pay3 c) (k0_pay4 x c) (k + 1) hk (ix2 r l)
        = min (score x c l n₁) (runMin (k0_pay3 c) (k0_pay4 x c) k (Nat.lt_of_succ_lt hk) (ix2 r l)) := by
      rw [← hs]; rfl
    have hg : runArg (k0_pay3 c) (k0_pay4 x c) (k + 1) hk (ix2 r l)
        = if score x c l n₁ < runMin (k0_pay3 c) (k0_pay4 x c) k (Nat.lt_of_succ_lt hk) (ix2 r l) then BitVec.ofNat 32 (k + 1)
          else runArg (k0_pay3 c) (k0_pay4 x c) k (Nat.lt_of_succ_lt hk) (ix2 r l) := by
      rw [← hs]
      exact select_lt _ _ _ _
    rw [hm, hg]
    generalize runMin (k0_pay3 c) (k0_pay4 x c) k (Nat.lt_of_succ_lt hk) (ix2 r l) = v at *
    have hsplit : ∀ p ∈ rowsUpTo (score x c l) r (k + 1), p ∈ rowsUpTo (score x c l) r k ∨ p = (score x c l n₁, n₁) := by
      rintro ⟨u, i⟩ ⟨hu, hi8, hiq⟩
      dsimp only at hu hi8 hiq
      by_cases h : i.val / 8 ≤ k
      · exact Or.inl ⟨hu, hi8, h⟩
      · have : i = n₁ := Fin.ext (by show i.val = 8 * (k + 1) + r.val; omega)
        exact Or.inr (by rw [hu, this])
    by_cases hc : score x c l n₁ < v
    · rw [if_pos hc, min_eq_left (le_of_lt hc)]
      refine ⟨n₁, ⟨rfl, by show (8 * (k + 1) + r.val) % 8 = r.val; omega, by show (8 * (k + 1) + r.val) / 8 ≤ k + 1; omega⟩, ?_, ?_⟩
      · congr 1; show k + 1 = (8 * (k + 1) + r.val) / 8; omega
      · intro p hp
        rcases hsplit p hp with h | rfl
        · rcases hl p h with h | ⟨h, -⟩
          · exact Or.inl (lt_trans hc h)
          · exact Or.inl (h ▸ hc)
        · exact Or.inr ⟨rfl, le_refl _⟩
    · rw [if_neg hc, min_eq_right (not_lt.1 hc)]
      refine ⟨n, ⟨hv, h8, Nat.le_succ_of_le hq⟩, ha, ?_⟩
      intro p hp
      rcases hsplit p hp with h | rfl
      · exact hl p h
      · rcases lt_or_eq_of_le (not_lt.1 hc) with h | h
        · exact Or.inl h
        · exact Or.inr ⟨h, by show n.val ≤ 8 * (k + 1) + r.val; omega⟩

/-- The pairs of the codes that lie on one of the rows `R` of their slab. -/
def rowsOf (f : Fin 512 → EReal) (R : Set Nat) : Set (EReal × Fin 512) := {p | p.1 = f p.2 ∧ p.2.val % 8 ∈ R}

/-- The pairs of two sets of rows together. -/
theorem rowsOf_union (f : Fin 512 → EReal) (R Q : Set Nat) : rowsOf f R ∪ rowsOf f Q = rowsOf f (R ∪ Q) := by
  ext p
  simp only [rowsOf, Set.mem_union, Set.mem_setOf_eq]
  tauto

/-- The scan's result on a row: its values and its slab number turned into a code index hold that row's codes. -/
theorem scan_held (r : Fin 8) (l : Fin 16384) :
    Held (rowsOf (score x c l) {r.val}) (runMin (k0_pay3 c) (k0_pay4 x c) 63 (by decide) (ix2 r l))
      (k0_pay148 (muli (runArg (k0_pay3 c) (k0_pay4 x c) 63 (by decide)) (broadcast S8x16384 8#32))
        (iota .tc S8x16384 32 [0] iota_S8x16384_d0_w32) (ix2 r l)) := by
  obtain ⟨n, ⟨hv, h8, -⟩, ha, hl⟩ := scan_apply x c r l 63 (by decide)
  refine ⟨n, ⟨hv, h8⟩, ?_, fun p hp => hl p ⟨hp.1, hp.2, ?_⟩⟩
  · have h : k0_pay148 (muli (runArg (k0_pay3 c) (k0_pay4 x c) 63 (by decide)) (broadcast S8x16384 8#32))
        (iota .tc S8x16384 32 [0] iota_S8x16384_d0_w32) (ix2 r l)
        = runArg (k0_pay3 c) (k0_pay4 x c) 63 (by decide) (ix2 r l) * 8#32 + BitVec.ofNat 32 r.val := by
      pointwise [k0_pay148]
      rfl
    rw [h, ha]
    have hn := n.isLt
    unfold word
    apply BitVec.eq_of_toNat_eq
    simp only [BitVec.toNat_add, BitVec.toNat_mul, BitVec.toNat_ofNat]
    dsimp only at h8
    omega
  · have := p.2.isLt
    omega

section Rounds

variable (v : FVec Ideal S8x16384 .f32) (a b : IVec S8x16384 32) (f : Fin 512 → EReal) (l : Fin 16384)

/-- The first halving round merges row `r + 4` into row `r`. -/
theorem round4 (R : Nat → Set Nat) (h : ∀ r : Fin 8, Held (rowsOf f (R r.val)) (v (ix2 r l)) (k0_pay148 a b (ix2 r l))) (r : Fin 4) :
    Held (rowsOf f (R r.val ∪ R (4 + r.val))) (k0_pay154 v a b (ix2 r l)) (k0_pay155 v a b (ix2 r l)) := by
  have hr := r.isLt
  have := held_select (h ⟨r.val, by omega⟩) (h ⟨4 + r.val, by omega⟩)
  rw [rowsOf_union] at this
  pointwise [k0_pay154, k0_pay155, k0_pay153, k0_pay152, k0_pay151, k0_pay150, k0_pay149]
  exact this

/-- The second halving round merges row `r + 2` into row `r`. -/
theorem round2 (R : Nat → Set Nat) (h : ∀ r : Fin 4, Held (rowsOf f (R r.val)) (k0_pay154 v a b (ix2 r l)) (k0_pay155 v a b (ix2 r l)))
    (r : Fin 2) :
    Held (rowsOf f (R r.val ∪ R (2 + r.val))) (k0_pay161 v a b (ix2 r l)) (k0_pay162 v a b (ix2 r l)) := by
  have hr := r.isLt
  have := held_select (h ⟨r.val, by omega⟩) (h ⟨2 + r.val, by omega⟩)
  rw [rowsOf_union] at this
  pointwise [k0_pay161, k0_pay162, k0_pay160, k0_pay159, k0_pay158, k0_pay157, k0_pay156]
  exact this

/-- The row of least values after the last halving round. -/
def lastMin : FVec Ideal S1x16384 .f32 := select (k0_pay167 v a b) (k0_pay164 v a b) (k0_pay163 v a b)

/-- The last halving round merges the two rows left, and the index block holds the winners' words. -/
theorem round1 (R : Nat → Set Nat) (h : ∀ r : Fin 2, Held (rowsOf f (R r.val)) (k0_pay161 v a b (ix2 r l)) (k0_pay162 v a b (ix2 r l))) :
    Held (rowsOf f (R 0 ∪ R 1)) (lastMin v a b (ix2 0 l)) (k0_pay168 v a b (ix3 0 0 l)) := by
  have := held_select (h 0) (h 1)
  rw [rowsOf_union] at this
  pointwise [lastMin, k0_pay168, k0_pay167, k0_pay166, k0_pay165, k0_pay164, k0_pay163]
  exact this

end Rounds

/-- The least biased score of every lane. -/
def tileMin : FVec Ideal S1x16384 .f32 :=
  lastMin (runMin (k0_pay3 c) (k0_pay4 x c) 63 (by decide))
    (muli (runArg (k0_pay3 c) (k0_pay4 x c) 63 (by decide)) (broadcast S8x16384 8#32))
    (iota .tc S8x16384 32 [0] iota_S8x16384_d0_w32)

/-- A lane of a tile holds the least biased score over all 512 codes and the word of the first code reaching it. -/
theorem tile_held (l : Fin 16384) : Held (graph (score x c l)) (tileMin x c (ix2 0 l)) (tileIdx x c (ix3 0 0 l)) := by
  have h := round1 _ _ _ _ l (fun r => (({r} : Set Nat) ∪ {4 + r}) ∪ ({2 + r} ∪ {4 + (2 + r)}))
    (round2 _ _ _ _ l (fun r => ({r} : Set Nat) ∪ {4 + r}) (round4 _ _ _ _ l (fun r => {r}) (fun r => scan_held x c r l)))
  have e : rowsOf (score x c l) (((({0} : Set Nat) ∪ {4 + 0}) ∪ ({2 + 0} ∪ {4 + (2 + 0)})) ∪ ((({1} : Set Nat) ∪ {4 + 1}) ∪ ({2 + 1} ∪ {4 + (2 + 1)})))
      = graph (score x c l) := by
    ext p
    simp only [rowsOf, graph, Set.mem_union, Set.mem_singleton_iff, Set.mem_setOf_eq, and_iff_left_iff_imp]
    intro _
    omega
  rw [← e]
  exact h

/-- A tile's partial loss: its sum of squares plus twice the sum of its lanes' least scores. -/
theorem tilePart_eq :
    tilePart x c = (∑ l : Fin 16384, ∑ k : Fin 32, x (ix2 k l) * x (ix2 k l)) + ((2 : ℝ) : EReal) * ∑ l : Fin 16384, tileMin x c (ix2 0 l) := by
  have h2 : k0_pay2 x = ∑ l : Fin 16384, ∑ k : Fin 32, x (ix2 k l) * x (ix2 k l) := by
    pointwise [k0_pay2, k0_pay1]
    exact Finset.sum_comm
  have h : tilePart x c = k0_pay2 x + Ideal.ofBits .f32 0x40000000#32 * ∑ l : Fin 16384, tileMin x c (ix2 0 l) := by
    unfold tilePart tileMin
    generalize runMin (k0_pay3 c) (k0_pay4 x c) 63 (by decide) = v
    generalize muli (runArg (k0_pay3 c) (k0_pay4 x c) 63 (by decide)) (broadcast S8x16384 8#32) = a
    generalize (iota .tc S8x16384 32 [0] iota_S8x16384_d0_w32) = b
    have hl : k0_pay169 (k0_pay2 x) v a b = Scalar.addf (k0_pay2 x) (Scalar.mulf (Scalar.ofBits .f32 0x40000000#32)
       (extractAt ![0, 0, 0] (shapeCast S1x1x1 (multiReduction .add [1, 2] S1 (shapeCast S1x1x16384 (lastMin v a b) shapeCasts_S1x16384_S1x1x16384) 0x00000000#32 reduces_S1x1x16384_S1 (.inl rfl) rfl) shapeCasts_S1_S1x1x1) inpos_S1x1x1_p0_0_0)) := rfl
    rw [hl]
    generalize lastMin v a b = w
    pointwise []
    rw [Fin.sum_univ_one]
  rw [h, h2, two_bits]

end Cert.KernelIdeal.Assign
-- ==== Proof.Assign.Arrays.lean ====
module

public import proofs.«01_k».proof.Proof.Assign.Tile

@[expose] public section

set_option maxRecDepth 16384
noncomputable section

/-! # The kernel's results as functions of its two arguments -/

namespace Cert.KernelIdeal.Assign
open Idealize.ShloMosaic Idealize.ShloMosaic.TcCoe Idealize.SL.Sem
open Cert.KernelIdeal Cert.KernelIdeal.Gen Cert.Assign

/-- The row a lane of a tile stands for. -/
def row (t : Fin 4) (l : Fin 16384) : Fin 65536 := ⟨16384 * t.val + l.val, by omega⟩

/-- The tile a grid point works on. -/
def tile (t : Fin cfg0.N) : Fin 4 := grid0.coords t 0

/-- The block of rows a grid point reads, transposed: column `l` is the row of lane `l`. -/
def tileOf (x : FVec Ideal S65536x32 .f32) (t : Fin 4) : FVec Ideal S32x16384 .f32 := fun j => x (ix2 (row t (j 1)) (j 0))

variable (m : (ℓ : Loc nD τ sig) → Buf (Elt Ideal) ℓ)

/-- The first operand's block at a grid point. -/
theorem idx0 : ∀ t : Fin cfg0.N, win0_0.index t = ![0, (grid0.coords t 0).val] := (by decide +kernel : ∀ t : Fin grid0.N, _)
/-- The second operand's block at a grid point. -/
theorem idx1 : ∀ t : Fin cfg0.N, win0_1.index t = ![0, 0] := (by decide +kernel : ∀ t : Fin grid0.N, _)
/-- The index array's block at a grid point. -/
theorem idx2 : ∀ t : Fin cfg0.N, win0_2.index t = ![(grid0.coords t 0).val, 0, 0] := (by decide +kernel : ∀ t : Fin grid0.N, _)
/-- The loss array's block at a grid point. -/
theorem idx3 : ∀ t : Fin cfg0.N, win0_3.index t = ![(grid0.coords t 0).val, 0, 0] := (by decide +kernel : ∀ t : Fin grid0.N, _)

/-- The transposed rows the kernel's first operand holds. -/
theorem entry_v0 (c : Dev nD) : V m c main_v0 = transpose S32x65536 [1, 0] (m ((c.tc : Thread nD τ).loc main_arg0)) transposes_S65536x32_S32x65536_1_0 := by
  show StableHlo.after hostOps0 _ _ = _
  unfold hostOps0
  after_results

/-- The codes reach the kernel unchanged. -/
theorem entry_arg1 (c : Dev nD) : V m c main_arg1 = m ((c.tc : Thread nD τ).loc main_arg1) := by
  show StableHlo.after hostOps0 _ _ = _
  unfold hostOps0
  after_results

/-- The first block at a grid point is the tile of rows of that point. -/
theorem block_x (c : Dev nD) (t : Fin cfg0.N) :
    iblk m c 0 t = tileOf (m ((c.tc : Thread nD τ).loc main_arg0)) (tile t) := by
  funext y
  blk_simp [iblk]
  show V m c main_v0 _ = _
  rw [entry_v0]
  have hy : (win0_0.blk t).view.emb y = ix2 (y 0) (row (tile t) (y 1)) := by
    blk_ext [idx0]
    exact congrArg (· + (y 1).val) (Nat.mul_comm _ _)
  rw [hy]
  pointwise []
  rfl

/-- The second block at a grid point is the whole array of codes. -/
theorem block_c (c : Dev nD) (t : Fin cfg0.N) : iblk m c 1 t = m ((c.tc : Thread nD τ).loc main_arg1) := by
  funext y
  blk_simp [iblk]
  show V m c main_arg1 _ = _
  rw [entry_arg1]
  congr 1
  blk_ext [idx1]

/-- An index block read at a lane. -/
theorem idx_at (x : FVec Ideal S65536x32 .f32) (k : FVec Ideal S512x32 .f32) (t t' : Fin 4) (y : S1x1x16384.Idx) (l : Fin 16384)
    (ht : t' = t) (hl : l = y 2) : tileIdx (F := Ideal) (tileOf x t) k y = tileIdx (F := Ideal) (tileOf x t') k (ix3 0 0 l) := by
  subst ht hl
  congr 1
  funext a
  match a with
  | ⟨0, _⟩ => exact Subsingleton.elim (α := Fin 1) _ _
  | ⟨1, _⟩ => exact Subsingleton.elim (α := Fin 1) _ _
  | ⟨2, _⟩ => rfl

/-- A partial loss of a tile. -/
theorem part_at (x : FVec Ideal S65536x32 .f32) (k : FVec Ideal S512x32 .f32) (t t' : Fin 4) (ht : t' = t) :
    tilePart (F := Ideal) (tileOf x t) k = tilePart (F := Ideal) (tileOf x t') k := by
  subst ht
  rfl

/-- The array of indices the kernel leaves. -/
theorem final_idx (c : Dev nD) : (dats m 0 c).arrAt 2 cfg0.N
    = (fun i => tileIdx (F := Ideal) (tileOf (m ((c.tc : Thread nD τ).loc main_arg0)) (i 0)) (m ((c.tc : Thread nD τ).loc main_arg1)) (ix3 0 0 (i 2)) : IVec S4x1x16384 32) := by
  refine (dats m 0 c).arrAt_eq_of_covers 2 _ (by decide +kernel) fun t hf y => ?_
  blk_simp
  rw [after0_2, outs_idx, block_x, block_c]
  have h0 : (win0_2.blk t).view.emb y 0 = tile t := by
    refine Fin.ext ?_
    idx_bounds y
    blk_simp [idx2]
    rfl
  have h2 : ((win0_2.blk t).view.emb y 2).val = (y 2).val := by
    blk_simp [idx2]
  exact idx_at _ _ _ _ y _ h0 (Fin.ext h2)

/-- The array of partial losses the kernel leaves. -/
theorem final_part (c : Dev nD) : (dats m 0 c).arrAt 3 cfg0.N
    = (fun i => tilePart (F := Ideal) (tileOf (m ((c.tc : Thread nD τ).loc main_arg0)) (i 0)) (m ((c.tc : Thread nD τ).loc main_arg1)) : FVec Ideal S4x1x1 .f32) := by
  refine (dats m 0 c).arrAt_eq_of_covers 3 _ (by decide +kernel) fun t hf y => ?_
  blk_simp
  rw [after0_3, outs_part, block_x, block_c]
  have h0 : (win0_3.blk t).view.emb y 0 = tile t := by
    refine Fin.ext ?_
    idx_bounds y
    blk_simp [idx3]
    rfl
  exact part_at _ _ _ _ h0

/-- The array of indices over the tiles and lanes. -/
def idxs (x : FVec Ideal S65536x32 .f32) (k : FVec Ideal S512x32 .f32) : IVec S4x1x16384 32 := fun i => tileIdx (F := Ideal) (tileOf x (i 0)) k (ix3 0 0 (i 2))

/-- The partial losses over the tiles. -/
def parts (x : FVec Ideal S65536x32 .f32) (k : FVec Ideal S512x32 .f32) : FVec Ideal S4x1x1 .f32 := fun i => tilePart (F := Ideal) (tileOf x (i 0)) k

/-- The indices the kernel returns: the array laid out flat. -/
def outIdx (x : FVec Ideal S65536x32 .f32) (k : FVec Ideal S512x32 .f32) : IVec S65536 32 := shapeCast S65536 (idxs x k) shapeCasts_S4x1x16384_S65536

/-- The loss the kernel returns: the partial losses added up and divided by the number of rows. -/
def outLoss (x : FVec Ideal S65536x32 .f32) (k : FVec Ideal S512x32 .f32) : FVec Ideal S_ .f32 :=
  Host.divf (Host.reduceAdd (parts x k) (constant S_ .f32 0x00000000#32) reducesTo_S4x1x1_S_d0_1_2 h_S_) (constant S_ .f32 0x47800000#32)

/-- The region's arrays as the operations after it find them. -/
theorem tail_arr (c : Dev nD) (w : Fin cfg0.W) :
    Pipeline.withArrays (cfgs 0).spec c (V0 m c) (fun w => (dats m 0 c).arrAt w (cfgs 0).N) (Proc.devRef .tc (Pipeline.arrRef (cfgs 0).spec w))
      = (dats m 0 c).arrAt w cfg0.N :=
  Pipeline.Dat.withArrays_arrAt (dats m 0 c) (by decide) (V0 m c) (A_eq m c) w

/-- What the index buffer holds after the operations that follow the kernel. -/
theorem tail_idx (c : Dev nD) : Pipeline.afterTail₀ cfgs (dats m) 0 (V0 m) [hostOps1] c main_v2
    = outIdx (m ((c.tc : Thread nD τ).loc main_arg0)) (m ((c.tc : Thread nD τ).loc main_arg1)) := by
  unfold Pipeline.afterTail₀
  show StableHlo.after hostOps1 _ _ = _
  unfold hostOps1
  after_results
  show (shapeCast S65536 (Pipeline.withArrays (cfgs 0).spec c (V0 m c) (fun w => (dats m 0 c).arrAt w (cfgs 0).N)
    (Proc.devRef .tc (Pipeline.arrRef (cfgs 0).spec 2))) shapeCasts_S4x1x16384_S65536 : IVec S65536 32) = _
  rw [tail_arr, final_idx]
  rfl

/-- What the loss buffer holds after the operations that follow the kernel. -/
theorem tail_loss (c : Dev nD) : Pipeline.afterTail₀ cfgs (dats m) 0 (V0 m) [hostOps1] c main_v4
    = outLoss (m ((c.tc : Thread nD τ).loc main_arg0)) (m ((c.tc : Thread nD τ).loc main_arg1)) := by
  unfold Pipeline.afterTail₀
  show StableHlo.after hostOps1 _ _ = _
  unfold hostOps1
  after_results
  show Host.divf (Host.reduceAdd (F := Ideal) (φ := .f32) (Pipeline.withArrays (cfgs 0).spec c (V0 m c) (fun w => (dats m 0 c).arrAt w (cfgs 0).N)
    (Proc.devRef .tc (Pipeline.arrRef (cfgs 0).spec 3)) : FVec Ideal S4x1x1 .f32) (constant S_ .f32 0x00000000#32) reducesTo_S4x1x1_S_d0_1_2 h_S_)
      (constant S_ .f32 0x47800000#32) = _
  rw [tail_arr, final_part]
  rfl

/-- The rows are left as they were. -/
theorem tail_arg0 (c : Dev nD) : Pipeline.afterTail₀ cfgs (dats m) 0 (V0 m) [hostOps1] c main_arg0 = m ((c.tc : Thread nD τ).loc main_arg0) := by
  unfold Pipeline.afterTail₀
  show StableHlo.after hostOps1 _ _ = _
  unfold hostOps1
  after_results
  rw [Pipeline.withArrays_of_ne (cfgs 0).spec c (V0 m c) _ main_arg0 (by decide)]
  show StableHlo.after hostOps0 _ _ = _
  unfold hostOps0
  after_results

variable (ρ : Dev nD → PrngReg)

/-- Every run of the kernel ends with the two results at the tail's terms and the arguments unchanged. -/
theorem run : θ_run defs (onTc (τ := τ) (main (F := Ideal))) ⟨m, fun _ => 0, ρ⟩ (fun r => ∀ c : Dev nD,
      r.2.mem ((c.tc : Thread nD τ).loc main_v2) = outIdx (m ((c.tc : Thread nD τ).loc main_arg0)) (m ((c.tc : Thread nD τ).loc main_arg1))
      ∧ r.2.mem ((c.tc : Thread nD τ).loc main_v4) = outLoss (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)) := by
  run_from run_main m ρ
  · exact tail_idx m c
  · exact tail_loss m c
  · exact tail_arg0 m c

end Cert.KernelIdeal.Assign
-- ==== Proof.Assign.RefRun.lean ====
module

public import proofs.«01_k».proof.Defs
public import proofs.«01_k».proof.Proof.Gen.ReferenceIdeal
public import proofs.«01_k».proof.Proof.Assign.Best
public import Idealize.ShloMosaic.Lib.Pipeline.ValueKit
public import Idealize.ShloMosaic.Lib.Pointwise
public import Idealize.ShloMosaic.Lib.Claim
public import Idealize.ShloMosaic.Lib.StableHlo.ReadAt

@[expose] public section

set_option maxRecDepth 16384
noncomputable section

/-! # The reference as a function of its two arguments -/

namespace Cert.ReferenceIdeal.Assign
open Idealize.ShloMosaic Idealize.ShloMosaic.TcCoe Idealize.SL.Sem
open Cert.ReferenceIdeal Cert.ReferenceIdeal.Gen Cert.Assign

/-- The squared distances of all rows to all codes. -/
def dist (x : FVec Ideal S65536x32 .f32) (c : FVec Ideal S512x32 .f32) : FVec Ideal S65536x512 .f32 :=
  subf
    (addf
      (broadcastInDim S65536x512 ![0, 1] bcast_S65536x1_S65536x512_0_1
        (broadcastInDim S65536x1 ![0] bcast_S65536_S65536x1_0
          (Host.reduceAdd (mulf x x) (constant S_ FTy.f32 0#32) reducesTo_S65536x32_S65536_d1 h_S_)))
      (broadcastInDim S65536x512 ![0, 1] bcast_S1x512_S65536x512_0_1
        (broadcastInDim S1x512 ![1] bcast_S512_S1x512_1
          (Host.reduceAdd (mulf c c) (constant S_ FTy.f32 0#32) reducesTo_S512x32_S512_d1 h_S_))))
    (mulf (broadcastInDim S65536x512 ![] bcast_S_S65536x512 (constant S_ FTy.f32 1073741824#32))
      (Host.dotGeneral dot_S65536x32_S32x512_S65536x512_1_0_0_1_n_n none x (transpose S32x512 [1, 0] c transposes_S512x32_S32x512_1_0)))

/-- The index of the nearest code of every row. -/
def near (d : FVec Ideal S65536x512 .f32) : IVec S65536 32 := fun j =>
  (Host.argReduce reducer_argmin_f32_i32 d (iotaInDim S65536x512 32 1) (constant S_ FTy.f32 2139095040#32) (constantI S_ 32 0#32)
    reducesTo_S65536x512_S65536_d1 h_S_ j).2

/-- The start indices of the gather: a negative index counts from the end. -/
def wrapped (w : IVec S65536 32) : IVec S65536x1x1 32 :=
  shapeCast S65536x1x1
    (select (cmpi .slt (broadcastInDim S65536x1 ![0] bcast_S65536_S65536x1_0 w) (broadcastInDim S65536x1 ![] bcast_S_S65536x1 (constantI S_ 32 0#32)))
      (addi (broadcastInDim S65536x1 ![0] bcast_S65536_S65536x1_0 w) (broadcastInDim S65536x1 ![] bcast_S_S65536x1 (constantI S_ 32 512#32)))
      (broadcastInDim S65536x1 ![0] bcast_S65536_S65536x1_0 w))
    shapeCasts_S65536x1_S65536x1x1

/-- The distances at the given indices, one per row. -/
def taken (d : FVec Ideal S65536x512 .f32) (w : IVec S65536 32) : FVec Ideal S65536 .f32 :=
  shapeCast S65536
    (select
      (Host.reduce IntOp.andi
        (andi (cmpi .sge (wrapped w) (broadcastInDim S65536x1x1 ![] bcast_S_S65536x1x1 (constantI S_ 32 0#32)))
          (cmpi .sle (wrapped w) (broadcastInDim S65536x1x1 ![0, 1, 2] bcast_S1x1x1_S65536x1x1_0_1_2
            (broadcastInDim S1x1x1 ![2] bcast_S1_S1x1x1_2 (constantI S1 32 511#32)))))
        (constantI S_ 1 1#1) reducesTo_S65536x1x1_S65536x1_d2 h_S_)
      (Host.gather gather_S65536x512_S65536x1x1_S65536x1_n_1_0_0_1_2_11 d (wrapped w))
      (broadcastInDim S65536x1 ![] bcast_S_S65536x1 (constant S_ FTy.f32 2143289344#32)))
    shapeCasts_S65536x1_S65536

/-- The mean of the rows' values. -/
def meanOf (v : FVec Ideal S65536 .f32) : FVec Ideal S_ .f32 :=
  Host.divf (Host.reduceAdd v (constant S_ FTy.f32 0#32) reducesTo_S65536_S_d0 h_S_) (constant S_ FTy.f32 1199570944#32)

variable (m : (ℓ : Loc nD τ sig) → Buf (Elt Ideal) ℓ) (ρ : Dev nD → PrngReg)

/-- The reference runs to its end, leaves these two results, and keeps its arguments. -/
theorem run : θ_run (defs (F := Ideal)) (onTc (τ := τ) (main (F := Ideal))) ⟨m, fun _ => 0, ρ⟩ (fun r => ∀ c : Dev nD,
    r.2.mem ((c.tc : Thread nD τ).loc main_v14) = near (dist (m (c.tc.loc main_arg0)) (m (c.tc.loc main_arg1)))
    ∧ r.2.mem ((c.tc : Thread nD τ).loc main_v19)
        = meanOf (taken (dist (m (c.tc.loc main_arg0)) (m (c.tc.loc main_arg1))) (near (dist (m (c.tc.loc main_arg0)) (m (c.tc.loc main_arg1)))))
    ∧ r.2.mem ((c.tc : Thread nD τ).loc main_arg0) = m (c.tc.loc main_arg0)
    ∧ r.2.mem ((c.tc : Thread nD τ).loc main_arg1) = m (c.tc.loc main_arg1)) := by
  hlo_run
  · clean_types
    simp -implicitDefEqProofs only [StableHlo.TRef.toBuf, StableHlo.TRef.ofBuf, cast_cast, cast_eq]
    unfold near
    rfl
  · clean_types
    simp -implicitDefEqProofs only [StableHlo.TRef.toBuf, StableHlo.TRef.ofBuf, cast_cast, cast_eq]
    unfold meanOf taken wrapped near
    rfl

end Cert.ReferenceIdeal.Assign
-- ==== Proof.Assign.RefValue.lean ====
module

public import proofs.«01_k».proof.Proof.Assign.RefRun

@[expose] public section

set_option maxRecDepth 16384
noncomputable section

/-! # The reference's results read at a row -/

namespace Cert.ReferenceIdeal.Assign
open Idealize.ShloMosaic Idealize.ShloMosaic.TcCoe Idealize.SL.Sem
open Cert.ReferenceIdeal Cert.ReferenceIdeal.Gen Cert.Assign

/-- The pattern of two. -/
theorem two_bits : Ideal.ofBits .f32 0x40000000#32 = ((2 : ℝ) : EReal) := by
  simp [Ideal.ofBits, Ideal.ieee]
  rw [← EReal.coe_mul]; norm_num

/-- The pattern of plus infinity. -/
theorem top_bits : Ideal.ofBits .f32 0x7F800000#32 = ⊤ := by
  simp [Ideal.ofBits, Ideal.ieee]

/-- The squared distance of a row to a code, from the two squared norms and the product. -/
theorem dist_apply (x : FVec Ideal S65536x32 .f32) (c : FVec Ideal S512x32 .f32) (i : Fin 65536) (n : Fin 512) :
    dist x c (ix2 i n) = (∑ k : Fin 32, x (ix2 i k) * x (ix2 i k)) + (∑ k : Fin 32, c (ix2 n k) * c (ix2 n k))
      - ((2 : ℝ) : EReal) * ∑ k : Fin 32, x (ix2 i k) * c (ix2 n k) := by
  pointwise [dist]
  rw [two_bits]

/-- One step of the reference's reduction keeps the better of the two pairs. -/
theorem reducer_held {S T : Set (EReal × Fin 512)} (a b : Ideal .f32 × BitVec 32) (ha : Held S a.1 a.2) (hb : Held T b.1 b.2) :
    Held (S ∪ T) (reducer_argmin_f32_i32 a b).1 (reducer_argmin_f32_i32 a b).2 := by
  have hu : FloatOps.cmpf .une a.1 a.1 = 0#1 := by simp [Ideal.cmpf_def, Ideal.cmp]
  have ho : ∀ p : BitVec 1, IntOp.ori p 0#1 = p := fun p => BitVec.or_zero
  have h := held_union hb ha
  rw [Set.union_comm] at h
  unfold reducer_argmin_f32_i32
  dsimp only
  rw [hu, ho, better_bit, ite_bit, select_lt, ← held_min_value a.1 b.1 (a.2.slt b.2 = true)]
  exact h

/-- The fold of the reduction over a list of (value, word) pairs holds the starting pair and the list's. -/
theorem fold_held (L : List (Ideal .f32 × BitVec 32)) (hw : ∀ q ∈ L, ∃ n, q.2 = word n)
    (S : Set (EReal × Fin 512)) (a : Ideal .f32 × BitVec 32) (ha : Held S a.1 a.2) :
    Held (S ∪ {p | (p.1, word p.2) ∈ L}) (L.foldl reducer_argmin_f32_i32 a).1 (L.foldl reducer_argmin_f32_i32 a).2 := by
  induction L generalizing S a with
  | nil => simpa using ha
  | cons q L ih =>
    obtain ⟨n, hn⟩ := hw q List.mem_cons_self
    have h := ih (fun q' h' => hw q' (List.mem_cons_of_mem _ h')) (S ∪ {(q.1, n)}) (reducer_argmin_f32_i32 a q)
      (reducer_held a q ha (by rw [hn]; exact held_single _ _))
    have e : S ∪ {(q.1, n)} ∪ {p | (p.1, word p.2) ∈ L} = S ∪ {p | (p.1, word p.2) ∈ q :: L} := by
      ext p
      have hq : p = (q.1, n) ↔ (p.1, word p.2) = q := by
        constructor
        · rintro rfl; exact Prod.ext rfl hn.symm
        · intro h
          have h1 : p.1 = q.1 := congrArg Prod.fst h
          have h2 : word p.2 = q.2 := congrArg Prod.snd h
          exact Prod.ext h1 (word_inj (h2.trans hn))
      simp only [Set.mem_union, Set.mem_singleton_iff, Set.mem_setOf_eq, List.mem_cons, hq]
      tauto
    rw [← e]
    exact h

/-- The pairs a reduction folds over at `j` are those of the indices that drop to `j`. -/
theorem mem_fiber {s t : Shape} {α β : Type} {axes : List (Fin s.rank)} (x : s.Idx → α) (y : s.Idx → β) (h : s.ReducesTo axes t)
    (j : t.Idx) (q : α × β) : q ∈ Host.argReduceFiber x y h j ↔ ∃ i : s.Idx, h.drop i = j ∧ (x i, y i) = q := by
  unfold Host.argReduceFiber
  simp only [List.mem_map, List.mem_filter, List.mem_finRange, true_and, decide_eq_true_eq]
  constructor
  · rintro ⟨p, hp, hq⟩
    exact ⟨_, hp, hq⟩
  · rintro ⟨i, hi, hq⟩
    exact ⟨s.rowMajor i, by rw [Equiv.symm_apply_apply]; exact hi, by rw [Equiv.symm_apply_apply]; exact hq⟩

/-- Dropping the code coordinate of an index leaves its row. -/
theorem drop_eq_iff (p : S65536x512.Idx) (i : Fin 65536) : reducesTo_S65536x512_S65536_d1.drop p = ix1 i ↔ p = ix2 i (p 1) := by
  have h0 : (reducesTo_S65536x512_S65536_d1.drop p 0).val = (p 0).val := rfl
  constructor
  · intro h
    rw [h] at h0
    funext a
    match a with
    | ⟨0, _⟩ => exact Fin.ext h0.symm
    | ⟨1, _⟩ => rfl
  · intro h
    funext a
    match a with
    | ⟨0, _⟩ => exact Fin.ext (h0.trans (congrArg Fin.val (congrFun h 0)))

/-- The reduction at an index whose fiber is listed by the codes holds the first least of the fiber's values, when it starts
    from plus infinity. -/
theorem reduce_held {s t u : Shape} {axes : List (Fin s.rank)} (d : FVec Ideal s .f32) (y : IVec s 32) (ix : FVec Ideal u .f32)
    (iy : IVec u 32) (h : s.ReducesTo axes t) (hu : 0 < u.numel) (j : t.Idx) (col : Fin 512 → s.Idx)
    (hcol : ∀ p, h.drop p = j ↔ ∃ n, p = col n) (hy : ∀ n, y (col n) = word n) (hx : ∀ a, ix a = ⊤) (hi : ∀ a, iy a = word 0) :
    ∃ v, Held (graph fun n => d (col n)) v (Host.argReduce reducer_argmin_f32_i32 d y ix iy h hu j).2 := by
  rw [Ideal.argReduce_eq_reduce2, Host.reduce2_eq_foldl_fiber, hx, hi]
  have hf := fold_held (Host.argReduceFiber d y h j)
    (fun q hq => by
      obtain ⟨p, hp, rfl⟩ := (mem_fiber _ _ _ _ q).1 hq
      obtain ⟨n, rfl⟩ := (hcol p).1 hp
      exact ⟨n, hy n⟩) {(⊤, 0)} (⊤, word 0) (held_single _ _)
  have e : {p : EReal × Fin 512 | (p.1, word p.2) ∈ Host.argReduceFiber d y h j} = graph fun n => d (col n) := by
    ext q
    simp only [Set.mem_setOf_eq, mem_fiber, graph, hcol]
    constructor
    · rintro ⟨p, ⟨n, rfl⟩, hq⟩
      obtain ⟨h1, h2⟩ := Prod.mk.inj hq
      have h3 : n = q.2 := word_inj ((hy n).symm.trans h2)
      rw [← h3]
      exact h1.symm
    · intro hq
      exact ⟨col q.2, ⟨q.2, rfl⟩, Prod.ext hq.symm (hy q.2)⟩
  rw [e] at hf
  exact ⟨_, held_drop hf ⟨d (col 0), le_top, rfl⟩⟩

/-- The rows' indices are the index parts of the reduction, as a function of the row. -/
theorem near_def (d : FVec Ideal S65536x512 .f32) : near d = fun j =>
    (Host.argReduce reducer_argmin_f32_i32 d (iotaInDim S65536x512 32 1) (constant S_ FTy.f32 2139095040#32) (constantI S_ 32 0#32)
      reducesTo_S65536x512_S65536_d1 h_S_ j).2 := rfl

/-- The reference's index of a row is that of its first least distance. -/
theorem near_held (d : FVec Ideal S65536x512 .f32) (i : Fin 65536) :
    ∃ v, Held (graph fun n => d (ix2 i n)) v (near d (ix1 i)) := by
  rw [near_def]
  exact reduce_held d _ _ _ _ _ _ (fun n => ix2 i n)
    (fun p => (drop_eq_iff p i).trans ⟨fun hp => ⟨p 1, hp⟩, by rintro ⟨n, rfl⟩; rfl⟩) (fun n => rfl) (fun _ => top_bits) (fun _ => rfl)

/-- A code's word is not negative and at most the last code, and it names its code. -/
theorem word_range (n : Fin 512) : IntOp.cmpi .slt (word n) 0#32 = 0#1 ∧ IntOp.cmpi .sge (word n) 0#32 = 1#1
    ∧ IntOp.cmpi .sle (word n) 511#32 = 1#1 ∧ min (word n).toInt.toNat 511 = n.val := by
  revert n
  decide +kernel

/-- The gather read at a row: the row's distance at its start index, when that is the word of a code. -/
theorem gather_word (d : FVec Ideal S65536x512 .f32) (w : IVec S65536x1x1 32) (i : Fin 65536) (n : Fin 512) (h : w (ix3 i 0 0) = word n) :
    Host.gather gather_S65536x512_S65536x1x1_S65536x1_n_1_0_0_1_2_11 d w (ix2 i 0) = d (ix2 i n) := by
  unfold Host.gather
  congr 1
  have m0 : (0 : Fin 2) ∈ gather_S65536x512_S65536x1x1_S65536x1_n_1_0_0_1_2_11.operandBatchingDims := List.mem_singleton.mpr rfl
  have m1 : (1 : Fin 2) ∈ gather_S65536x512_S65536x1x1_S65536x1_n_1_0_0_1_2_11.startIndexMap := List.mem_singleton.mpr rfl
  have hs : gather_S65536x512_S65536x1x1_S65536x1_n_1_0_0_1_2_11.siIdx (ix2 i 0)
      ⟨List.idxOf (1 : Fin 2) gather_S65536x512_S65536x1x1_S65536x1_n_1_0_0_1_2_11.startIndexMap, List.idxOf_lt_length_iff.2 m1⟩ = ix3 i 0 0 := by
    funext b
    match b with
    | ⟨0, _⟩ => exact Fin.ext rfl
    | ⟨1, _⟩ => exact Fin.ext rfl
    | ⟨2, _⟩ => exact Fin.ext rfl
  funext a
  match a with
  | ⟨0, _⟩ =>
    refine Fin.ext ?_
    show GatherDims.start _ _ w 0 + GatherDims.batchCoord _ _ 0 + GatherDims.offCoord _ _ 0 = i.val
    rw [GatherDims.start_batching _ _ _ _ m0, GatherDims.offCoord_eq_zero _ _ _ (fun k => ((GatherDims.mem_sKept _ _).1 k).2 m0)]
    unfold GatherDims.batchCoord
    rw [dif_pos m0, Nat.zero_add, Nat.add_zero]
    rfl
  | ⟨1, _⟩ =>
    refine Fin.ext ?_
    show GatherDims.start _ _ w 1 + GatherDims.batchCoord _ _ 1 + GatherDims.offCoord _ _ 1 = n.val
    rw [GatherDims.batchCoord_eq_zero _ _ _ (fun k => GatherDims.sim_disjoint _ _ m1 k),
      GatherDims.offCoord_eq_zero _ _ _ (fun k => ((GatherDims.mem_sKept _ _).1 k).1 (List.mem_singleton.mpr rfl))]
    unfold GatherDims.start
    rw [dif_pos m1, hs, h]
    exact (word_range n).2.2.2

/-- The start index of a row with a code's word is that word: it is not negative, so it is not wrapped. -/
theorem wrapped_word (w : IVec S65536 32) (i : Fin 65536) (n : Fin 512) (h : w (ix1 i) = word n) : wrapped w (ix3 i 0 0) = word n := by
  pointwise [wrapped]
  rw [h, (word_range n).1]
  rfl

/-- A row whose index is a code's word takes that code's distance: the bounds test holds, so no replacement value is used. -/
theorem taken_word (d : FVec Ideal S65536x512 .f32) (w : IVec S65536 32) (i : Fin 65536) (n : Fin 512) (h : w (ix1 i) = word n) :
    taken d w (ix1 i) = d (ix2 i n) := by
  rw [← gather_word d (wrapped w) i n (wrapped_word w i n h)]
  pointwise [taken]
  rw [Finset.univ_unique, Finset.fold_singleton]
  rw [show (default : Fin 1) = 0 from rfl, wrapped_word w i n h, (word_range n).2.1, (word_range n).2.2.1]
  rfl

/-- The mean of the rows' values: their sum divided by the number of rows. -/
theorem meanOf_eq (v : FVec Ideal S65536 .f32) (j : S_.Idx) :
    meanOf v j = Ideal.div (∑ i : Fin 65536, v (ix1 i)) (Ideal.ofBits .f32 0x47800000#32) := by
  pointwise [meanOf]

end Cert.ReferenceIdeal.Assign
-- ==== Proof.Assign.Join.lean ====
module

public import proofs.«01_k».proof.Proof.Assign.Arrays
public import proofs.«01_k».proof.Proof.Assign.RefValue

@[expose] public section

set_option maxRecDepth 16384
noncomputable section

/-! # The kernel's results are the reference's -/

namespace Cert.Assign
open Idealize.ShloMosaic Idealize.ShloMosaic.TcCoe Idealize.SL.Sem
open Cert.KernelIdeal.Assign (tileOf row score tileMin tileIdx tilePart idxs parts outIdx outLoss)
open Cert.ReferenceIdeal.Assign (dist near taken meanOf)
open Cert.KernelIdeal (S65536x32 S512x32 S65536 S_ S32x16384)

/-- Twice a value is the value added to itself. -/
theorem twice (a : EReal) : ((2 : ℝ) : EReal) * a = a + a := by
  have h : ((2 : ℝ) : EReal) = 1 + 1 := by
    rw [← EReal.coe_one, ← EReal.coe_add]
    norm_num
  rw [h, EReal.right_distrib_of_nonneg zero_le_one zero_le_one, one_mul]

/-- Doubling distributes over a sum. -/
theorem twice_sum {ι : Type} (s : Finset ι) (f : ι → EReal) : ((2 : ℝ) : EReal) * ∑ i ∈ s, f i = ∑ i ∈ s, ((2 : ℝ) : EReal) * f i := by
  simp only [twice, Finset.sum_add_distrib]

/-- The double of "half of `C` less `S`" is `C` less twice `S`. -/
theorem twice_half_sub (C S : EReal) : ((2 : ℝ) : EReal) * (((1 / 2 : ℝ) : EReal) * C - S) = C - ((2 : ℝ) : EReal) * S := by
  rw [sub_eq_add_neg, EReal.left_distrib_of_nonneg_of_ne_top (by norm_num) (EReal.coe_ne_top 2), ← mul_assoc, ← EReal.coe_mul,
    mul_neg, ← sub_eq_add_neg]
  norm_num

/-- A finite offset plus the double is strictly increasing. -/
theorem offset_strict (r : ℝ) : StrictMono fun v : EReal => (r : EReal) + ((2 : ℝ) : EReal) * v := by
  intro a b h
  have h2 : ((2 : ℝ) : EReal) * a < ((2 : ℝ) : EReal) * b := by
    rw [twice, twice]
    exact EReal.add_lt_add h h
  exact EReal.add_lt_add_left_coe h2 r

/-- A sum of squares of finite values is finite. -/
theorem finite_sq_sum {ι : Type} (s : Finset ι) (f : ι → EReal) (hf : ∀ i, ∃ r : ℝ, f i = r) : ∃ r : ℝ, ∑ i ∈ s, f i * f i = r := by
  choose g hg using hf
  refine ⟨∑ i ∈ s, g i * g i, ?_⟩
  simp only [hg, ← EReal.coe_mul]
  exact (map_sum (⟨⟨Real.toEReal, EReal.coe_zero⟩, EReal.coe_add⟩ : ℝ →+ EReal) _ _).symm

/-- A sum over the rows is a sum over the tiles and the lanes. -/
theorem sum_tiles {T L N : Nat} (hN : N = T * L) (f : Fin N → EReal) (g : Fin T → Fin L → Fin N) (hg : ∀ t l, (g t l).val = L * t.val + l.val) :
    ∑ i, f i = ∑ t, ∑ l, f (g t l) := by
  subst hN
  rw [← Fintype.sum_prod_type', ← Equiv.sum_comp finProdFinEquiv]
  refine Finset.sum_congr rfl fun p _ => congrArg f (Fin.ext ?_)
  rw [hg]
  exact Nat.add_comm _ _

/-- Every row is a lane of a tile. -/
theorem row_surj (i : Fin 65536) : ∃ t l, i = row t l :=
  ⟨⟨i.val / 16384, by omega⟩, ⟨i.val % 16384, by omega⟩, Fin.ext (Nat.div_add_mod _ _).symm⟩

variable (x : FVec Ideal S65536x32 .f32) (k : FVec Ideal S512x32 .f32)

/-- The precondition says that every entry of the rows is finite. -/
theorem finite_of_pre [Cert.Pre_x_finite.Facts] (h : Cert.Pre_x_finite.fn (F := Ideal) x k = fun _ => 1#1) (i : S65536x32.Idx) :
    ∃ r : ℝ, x i = r := by
  have hi : Ideal.cmp .olt (max (x i : EReal) (-(x i : EReal))) (Ideal.ofBits .f32 0x7F800000#32) = 1#1 := congrFun h i
  rw [Cert.ReferenceIdeal.Assign.top_bits] at hi
  simp only [Ideal.cmp] at hi
  have hl : max (x i : EReal) (-(x i : EReal)) < ⊤ := by
    by_contra hc
    simp [hc] at hi
  have h1 : (x i : EReal) ≠ ⊤ := ((le_max_left _ _).trans_lt hl).ne
  have h2 : (x i : EReal) ≠ ⊥ := by
    intro hb
    have := (le_max_right (x i : EReal) (-(x i : EReal))).trans_lt hl
    rw [hb] at this
    simp at this
  exact ⟨(x i : EReal).toReal, (EReal.coe_toReal h1 h2).symm⟩

/-- The squared norm of a row. -/
def sq (i : Fin 65536) : EReal := ∑ j : Fin 32, x (ix2 i j) * x (ix2 i j)

/-- The reference's distance is the row's squared norm plus twice the kernel's score. -/
theorem dist_score (t : Fin 4) (l : Fin 16384) (n : Fin 512) :
    dist x k (ix2 (row t l) n) = sq x (row t l) + ((2 : ℝ) : EReal) * score (tileOf x t) k l n := by
  rw [Cert.ReferenceIdeal.Assign.dist_apply]
  unfold score
  rw [twice_half_sub, sub_eq_add_neg, add_assoc, ← sub_eq_add_neg]
  unfold sq
  congr 3
  exact Finset.sum_congr rfl fun j _ => mul_comm _ _

/-- The array of indices read at a tile and a lane. -/
theorem idxs_at (t' t : Fin 4) (l' l : Fin 16384) (ht : t'.val = t.val) (hl : l'.val = l.val) :
    idxs x k (ix3 t' 0 l') = tileIdx (F := Ideal) (tileOf x t) k (ix3 0 0 l) := by
  rw [Fin.ext ht, Fin.ext hl]
  rfl

variable (hx : ∀ i, ∃ r : ℝ, x i = r)
include hx

/-- On a row, the kernel's index and its least score, carried to a distance, are the reference's held pair. -/
theorem row_held (t : Fin 4) (l : Fin 16384) :
    Held (graph fun n => dist x k (ix2 (row t l) n)) (sq x (row t l) + ((2 : ℝ) : EReal) * tileMin (tileOf x t) k (ix2 0 l))
      (tileIdx (F := Ideal) (tileOf x t) k (ix3 0 0 l)) := by
  obtain ⟨r, hr⟩ := finite_sq_sum Finset.univ (fun j : Fin 32 => x (ix2 (row t l) j)) (fun j => hx _)
  have h := held_map _ (offset_strict r) (Cert.KernelIdeal.Assign.tile_held (tileOf x t) k l)
  have e : sq x (row t l) = r := hr
  simp only [dist_score, e]
  exact h

/-- The reference's index of a row is the kernel's. -/
theorem near_row (t : Fin 4) (l : Fin 16384) : near (dist x k) (ix1 (row t l)) = tileIdx (F := Ideal) (tileOf x t) k (ix3 0 0 l) := by
  obtain ⟨v, hv⟩ := Cert.ReferenceIdeal.Assign.near_held (dist x k) (row t l)
  exact (held_unique hv (row_held x k hx t l)).2

/-- The distance the reference takes at a row is the row's squared norm plus twice the kernel's least score. -/
theorem taken_row (t : Fin 4) (l : Fin 16384) : taken (dist x k) (near (dist x k)) (ix1 (row t l))
    = sq x (row t l) + ((2 : ℝ) : EReal) * tileMin (tileOf x t) k (ix2 0 l) := by
  obtain ⟨n, hn, hw, -⟩ := row_held x k hx t l
  rw [Cert.ReferenceIdeal.Assign.taken_word _ _ _ n ((near_row x k hx t l).trans hw)]
  exact hn.symm

/-- The two programs return the same indices. -/
theorem idx_eq : outIdx x k = near (dist x k) := by
  funext j
  obtain ⟨i, rfl⟩ : ∃ i : Fin 65536, j = ix1 i := ⟨j 0, by funext a; match a with | ⟨0, _⟩ => rfl⟩
  obtain ⟨t, l, rfl⟩ := row_surj i
  rw [near_row x k hx]
  pointwise [outIdx]
  refine idxs_at x k _ t _ l ?_ ?_
  · show (16384 * t.val + l.val) / 16384 = t.val
    omega
  · show (16384 * t.val + l.val) % 16384 = l.val
    omega

/-- The two programs return the same loss. -/
theorem loss_eq : outLoss x k = meanOf (taken (dist x k) (near (dist x k))) := by
  funext j
  rw [Cert.ReferenceIdeal.Assign.meanOf_eq]
  rw [sum_tiles (T := 4) (L := 16384) (by norm_num) (fun i => taken (dist x k) (near (dist x k)) (ix1 i)) row (fun _ _ => rfl)]
  simp only [taken_row x k hx]
  pointwise [outLoss]
  refine congrArg (fun s : EReal => Ideal.div s (Ideal.ofBits .f32 0x47800000#32)) (Finset.sum_congr rfl fun t _ => ?_)
  rw [Fintype.sum_unique, Fintype.sum_unique]
  show tilePart (F := Ideal) (tileOf x t) k = _
  rw [Cert.KernelIdeal.Assign.tilePart_eq, twice_sum, ← Finset.sum_add_distrib]
  rfl

end Cert.Assign
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Assign.Join
public import Idealize.ShloMosaic.Adequacy
public import Idealize.ShloMosaic.Init

@[expose] public section

noncomputable section

/-! # The claims

Every run of the kernel and of the reference ends with its arguments unchanged and its counters at zero, and, at the ideal
numbers, the kernel and the reference return the same indices and the same loss whenever the rows are finite. -/

namespace Cert.Proof

open Idealize.ShloMosaic Idealize.ShloMosaic.TcCoe Idealize.SL.Sem

/-- The side condition of the precondition's one broadcast. -/
theorem preFacts : Cert.Pre_x_finite.Facts := ⟨by decide⟩

section Reference
open Cert.ReferenceIdeal Cert.ReferenceIdeal.Gen

/-- The reference ends with its arguments unchanged and every counter at zero. -/
theorem reference_frame (m : (ℓ : Loc nD τ sig) → Buf (Elt Ideal) ℓ) (g : Dev nD → PrngReg) :
    θ_run (defs (F := Ideal)) (onTc (τ := τ) (main (F := Ideal))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  (θ_run _ _ _).mono (fun r h => ⟨fun c => (h c).2.2, sem_eq_zero_of_no_sems (by decide) r.2⟩) (Cert.ReferenceIdeal.Assign.run m g)

end Reference

/-- The kernel and the reference return the same indices and the same loss when every entry of the rows is finite. -/
theorem same_results : Cert.algebraic_KernelIdeal_ReferenceIdeal_pre_x_finite (hKernelIdeal := Cert.KernelIdeal.Gen.facts)
    (hReferenceIdeal := Cert.ReferenceIdeal.Gen.facts) (hPre_x_finite := preFacts) := by
  intro m g m' g' hp ha
  haveI := preFacts
  refine ⟨_, _, Cert.KernelIdeal.Assign.run m g, ?_⟩
  refine (θ_run _ _ _).mono (fun r hr c => ?_) (Cert.ReferenceIdeal.Assign.run m' g')
  obtain ⟨h0, h1, h2, h3⟩ := hr c
  obtain ⟨a0, a1⟩ := ha c
  have hx := Cert.Assign.finite_of_pre (_) (_) (hp c)
  refine ⟨?_, ?_, h2, h3⟩
  · rw [h0, a0, a1]
    exact (Cert.Assign.idx_eq _ _ hx).symm
  · rw [h1, a0, a1]
    exact (Cert.Assign.loss_eq _ _ hx).symm

/-- All the claims. -/
theorem claim : Cert.Claim :=
  ⟨Cert.Kernel.Gen.facts, Cert.KernelIdeal.Gen.facts, Cert.ReferenceIdeal.Gen.facts, preFacts,
    fun m g _ => Cert.Kernel.Gen.frame m g, fun m g _ => Cert.KernelIdeal.Gen.frame m g, fun m g _ => Cert.KernelIdeal.Gen.frame m g,
    fun m g _ => reference_frame m g, fun m g _ => reference_frame m g, trivial, same_results⟩

end Cert.Proof

end
